-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x128 : Shape := ⟨2, ![8192, 128]⟩
abbrev S8192x100 : Shape := ⟨2, ![8192, 100]⟩
abbrev S1x128 : Shape := ⟨2, ![1, 128]⟩
abbrev S1x100 : Shape := ⟨2, ![1, 100]⟩
abbrev S1x1 : Shape := ⟨2, ![1, 1]⟩
abbrev S_ : Shape := ⟨0, ![]⟩
abbrev S1024x128 : Shape := ⟨2, ![1024, 128]⟩
abbrev S1024x100 : Shape := ⟨2, ![1024, 100]⟩
abbrev S1024 : Shape := ⟨1, ![1024]⟩
abbrev S1024x1 : Shape := ⟨2, ![1024, 1]⟩
abbrev S1 : Shape := ⟨1, ![1]⟩
abbrev S1x1024x1 : Shape := ⟨3, ![1, 1024, 1]⟩
abbrev S1x1x1 : Shape := ⟨3, ![1, 1, 1]⟩
abbrev S128 : Shape := ⟨1, ![128]⟩
abbrev S1x1x128 : Shape := ⟨3, ![1, 1, 128]⟩

abbrev nBuf : Space → Nat
  | .hbm => 8
  | .vmem => 8
  | .smem => 2
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S8192x100, .f32⟩
  | .hbm, ⟨4, _⟩ => ⟨S1x128, .f32⟩
  | .hbm, ⟨5, _⟩ => ⟨S1x100, .f32⟩
  | .hbm, ⟨6, _⟩ => ⟨S1x1, .f32⟩
  | .hbm, ⟨7, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x100, .f32⟩
  | .local _ .vmem, ⟨3, _⟩ => ⟨S1024x100, .f32⟩
  | .local _ .vmem, ⟨4, _⟩ => ⟨S1x128, .f32⟩
  | .local _ .vmem, ⟨5, _⟩ => ⟨S1x100, .f32⟩
  | .local _ .vmem, ⟨6, _⟩ => ⟨S1x128, .f32⟩
  | .local _ .vmem, ⟨7, _⟩ => ⟨S1x128, .f32⟩
  | .local _ .smem, ⟨0, _⟩ => ⟨S1x1, .f32⟩
  | .local _ .smem, ⟨1, _⟩ => ⟨S1x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_stg4_0 : Ref sig .tc := ⟨.smem, 0, rfl⟩
abbrev cc0_scratch2 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v84 : BitVec 1 := Scalar.cmpi .eq arg0 c7_i32
  let v85 : BitVec 32 := Scalar.extui v84
  let c0_i32_33 : BitVec 32 := 0#32
  let v86 : BitVec 1 := Scalar.cmpi .ne v85 c0_i32_33
  v86

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S8192x128 : Shape := ⟨2, ![8192, 128]⟩
abbrev S8192x100 : Shape := ⟨2, ![8192, 100]⟩
abbrev S128 : Shape := ⟨1, ![128]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x128 : Shape := ⟨2, ![1, 128]⟩
abbrev S8191x128 : Shape := ⟨2, ![8191, 128]⟩
abbrev S1x8191 : Shape := ⟨2, ![1, 8191]⟩
abbrev S8191 : Shape := ⟨1, ![8191]⟩
abbrev S8191x1 : Shape := ⟨2, ![8191, 1]⟩

abbrev nBuf : Space → Nat
  | .hbm => 97
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S8192x100, .f32⟩
  | .hbm, ⟨4, _⟩ => ⟨S128, .f32⟩
  | .hbm, ⟨5, _⟩ => ⟨S8192x100, .i32⟩
  | .hbm, ⟨6, _⟩ => ⟨S_, .f32⟩
  | .hbm, ⟨7, _⟩ => ⟨S_, .i32⟩
  | .hbm, ⟨8, _⟩ => ⟨S8192, .f32⟩
  | .hbm, ⟨9, _⟩ => ⟨S8192, .i32⟩
  | .hbm, ⟨10, _⟩ => ⟨S1x8192, .i32⟩
  | .hbm, ⟨11, _⟩ => ⟨S8192x1, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S1x128, .f32⟩
  | .hbm, ⟨16, _⟩ => ⟨S128, .f32⟩
  | .hbm, ⟨17, _⟩ => ⟨S8191x128, .f32⟩
  | .hbm, ⟨18, _⟩ => ⟨S1x8191, .i1⟩
  | .hbm, ⟨19, _⟩ => ⟨S8191, .i1⟩
  | .hbm, ⟨20, _⟩ => ⟨S1x128, .f32⟩
  | .hbm, ⟨21, _⟩ => ⟨S8191x128, .f32⟩
  | .hbm, ⟨22, _⟩ => ⟨S8191x128, .f32⟩
  | .hbm, ⟨23, _⟩ => ⟨S8191x128, .f32⟩
  | .hbm, ⟨24, _⟩ => ⟨S_, .f32⟩
  | .hbm, ⟨25, _⟩ => ⟨S8191, .f32⟩
  | .hbm, ⟨26, _⟩ => ⟨S1x128, .f32⟩
  | .hbm, ⟨27, _⟩ => ⟨S8191x1, .f32⟩
  | .hbm, ⟨28, _⟩ => ⟨S8191x128, .f32⟩
  | .hbm, ⟨29, _⟩ => ⟨S8191x128, .f32⟩
  | .hbm, ⟨30, _⟩ => ⟨S8191x128, .f32⟩
  | .hbm, ⟨31, _⟩ => ⟨S8191x128, .f32⟩
  | .hbm, ⟨32, _⟩ => ⟨S_, .f32⟩
  | .hbm, ⟨33, _⟩ => ⟨S8191x128, .f32⟩
  | .hbm, ⟨34, _⟩ => ⟨S8191x128, .f32⟩
  | .hbm, ⟨35, _⟩ => ⟨S_, .f32⟩
  | .hbm, ⟨36, _⟩ => ⟨S8191x128, .f32⟩
  | .hbm, ⟨37, _⟩ => ⟨S8191x128, .f32⟩
  | .hbm, ⟨38, _⟩ => ⟨S_, .f32⟩
  | .hbm, ⟨39, _⟩ => ⟨S8191x128, .f32⟩
  | .hbm, ⟨40, _⟩ => ⟨S8191x128, .i1⟩
  | .hbm, ⟨41, _⟩ => ⟨S_, .f32⟩
  | .hbm, ⟨42, _⟩ => ⟨S_, .f32⟩
  | .hbm, ⟨43, _⟩ => ⟨S8191x128, .f32⟩
  | .hbm, ⟨44, _⟩ => ⟨S8191x128, .f32⟩
  | .hbm, ⟨45, _⟩ => ⟨S_, .f32⟩
  | .hbm, ⟨46, _⟩ => ⟨S128, .f32⟩
  | .hbm, ⟨47, _⟩ => ⟨S_, .f32⟩
  | .hbm, ⟨48, _⟩ => ⟨S_, .f32⟩
  | .hbm, ⟨49, _⟩ => ⟨S128, .f32⟩
  | .hbm, ⟨50, _⟩ => ⟨S8191, .f32⟩
  | .hbm, ⟨51, _⟩ => ⟨S1x128, .f32⟩
  | .hbm, ⟨52, _⟩ => ⟨S8191x128, .f32⟩
  | .hbm, ⟨53, _⟩ => ⟨S8191x128, .f32⟩
  | .hbm, ⟨54, _⟩ => ⟨S8191x128, .f32⟩
  | .hbm, ⟨55, _⟩ => ⟨S_, .f32⟩
  | .hbm, ⟨56, _⟩ => ⟨S8191, .f32⟩
  | .hbm, ⟨57, _⟩ => ⟨S1x128, .f32⟩
  | .hbm, ⟨58, _⟩ => ⟨S8191x1, .f32⟩
  | .hbm, ⟨59, _⟩ => ⟨S8191x128, .f32⟩
  | .hbm, ⟨60, _⟩ => ⟨S8191x128, .f32⟩
  | .hbm, ⟨61, _⟩ => ⟨S8191x128, .f32⟩
  | .hbm, ⟨62, _⟩ => ⟨S8191x128, .f32⟩
  | .hbm, ⟨63, _⟩ => ⟨S_, .f32⟩
  | .hbm, ⟨64, _⟩ => ⟨S8191x128, .f32⟩
  | .hbm, ⟨65, _⟩ => ⟨S8191x128, .f32⟩
  | .hbm, ⟨66, _⟩ => ⟨S_, .f32⟩
  | .hbm, ⟨67, _⟩ => ⟨S8191x128, .f32⟩
  | .hbm, ⟨68, _⟩ => ⟨S8191x128, .f32⟩
  | .hbm, ⟨69, _⟩ => ⟨S_, .f32⟩
  | .hbm, ⟨70, _⟩ => ⟨S8191x128, .f32⟩
  | .hbm, ⟨71, _⟩ => ⟨S8191x128, .i1⟩
  | .hbm, ⟨72, _⟩ => ⟨S_, .f32⟩
  | .hbm, ⟨73, _⟩ => ⟨S_, .f32⟩
  | .hbm, ⟨74, _⟩ => ⟨S8191x128, .f32⟩
  | .hbm, ⟨75, _⟩ => ⟨S8191x128, .f32⟩
  | .hbm, ⟨76, _⟩ => ⟨S8191x1, .f32⟩
  | .hbm, ⟨77, _⟩ => ⟨S8191x128, .f32⟩
  | .hbm, ⟨78, _⟩ => ⟨S8191x128, .f32⟩
  | .hbm, ⟨79, _⟩ => ⟨S_, .f32⟩
  | .hbm, ⟨80, _⟩ => ⟨S128, .f32⟩
  | .hbm, ⟨81, _⟩ => ⟨S_, .f32⟩
  | .hbm, ⟨82, _⟩ => ⟨S_, .f32⟩
  | .hbm, ⟨83, _⟩ => ⟨S128, .f32⟩
  | .hbm, ⟨84, _⟩ => ⟨S1x8192, .i1⟩
  | .hbm, ⟨85, _⟩ => ⟨S8192, .i1⟩
  | .hbm, ⟨86, _⟩ => ⟨S8192, .f32⟩
  | .hbm, ⟨87, _⟩ => ⟨S_, .f32⟩
  | .hbm, ⟨88, _⟩ => ⟨S_, .f32⟩
  | .hbm, ⟨89, _⟩ => ⟨S128, .f32⟩
  | .hbm, ⟨90, _⟩ => ⟨S_, .f32⟩
  | .hbm, ⟨91, _⟩ => ⟨S128, .f32⟩
  | .hbm, ⟨92, _⟩ => ⟨S128, .f32⟩
  | .hbm, ⟨93, _⟩ => ⟨S128, .f32⟩
  | .hbm, ⟨94, _⟩ => ⟨S_, .f32⟩
  | .hbm, ⟨95, _⟩ => ⟨S_, .f32⟩
  | .hbm, ⟨96, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_call0_v0 : Ref sig .tc := ⟨.hbm, 5, rfl⟩
abbrev main_call0_cst : Ref sig .tc := ⟨.hbm, 6, rfl⟩
abbrev main_call0_c : Ref sig .tc := ⟨.hbm, 7, rfl⟩
abbrev main_call0_v1_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_call1_v0 : Ref sig .tc := ⟨.hbm, 42, rfl⟩
abbrev main_call1_v1 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_call2_call0_cst : Ref sig .tc := ⟨.hbm, 47, rfl⟩
abbrev main_call2_call0_v0 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_v48 : Ref sig .tc := ⟨.hbm, 71, rfl⟩
abbrev main_cst_10 : Ref sig .tc := ⟨.hbm, 72, rfl⟩
abbrev main_call3_v0 : Ref sig .tc := ⟨.hbm, 73, rfl⟩
abbrev main_call3_v1 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_11 : Ref sig .tc := ⟨.hbm, 79, rfl⟩
abbrev main_v53 : Ref sig .tc := ⟨.hbm, 80, rfl⟩
abbrev main_call4_call0_cst : Ref sig .tc := ⟨.hbm, 81, rfl⟩
abbrev main_call4_call0_v0 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_12 : Ref sig .tc := ⟨.hbm, 87, rfl⟩
abbrev main_v58 : Ref sig .tc := ⟨.hbm, 88, rfl⟩
abbrev main_v59 : Ref sig .tc := ⟨.hbm, 89, rfl⟩
abbrev main_cst_13 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_14 : Ref sig .tc := ⟨.hbm, 94, rfl⟩
abbrev main_v63 : Ref sig .tc := ⟨.hbm, 95, rfl⟩
abbrev main_v64 : Ref sig .tc := ⟨.hbm, 96, rfl⟩

abbrev nD : Nat := 1
abbrev τ : Topo := Topo.v7x

variable {F : FTy → Type} [FloatOps F]
-- ==== Proof.Spec.lean ====
/- The value both programs compute, written over the extended reals and plain finite index types: squared distances of
   all rows to row 0, their triangular histogram over 128 bins, the histogram of the rows of row 0's class, the running
   sums of both, and the quotient. No shape, buffer or machine word but the class label occurs here. -/
module

public import Idealize.ShloMosaic.PureOps.Ideal

@[expose] public section

noncomputable section

namespace Cert.Spec

open Idealize.ShloMosaic

/-- The squared Euclidean distance of row `r` to row 0. -/
def sqDist (x : Fin 8192 → Fin 128 → EReal) (r : Fin 8192) : EReal :=
  ∑ k, (x r k - x 0 k) * (x r k - x 0 k)

/-- The centre of bin `k`: `2 + 4 k`. -/
def center (k : Fin 128) : EReal := ((2 + 4 * (k.val : ℝ) : ℝ) : EReal)

/-- The weight of a distance `d` in the bin centred at `c`: a triangle of half-width four. -/
def tri (c d : EReal) : EReal := max (1 - max (c - d) (-(c - d)) * (((1 : ℝ) / 4 : ℝ) : EReal)) 0

/-- `k` is the first place at which `row` attains its maximum. -/
def IsFirstMax {n : Nat} (row : Fin n → EReal) (k : Fin n) : Prop :=
  (∀ j, row j ≤ row k) ∧ ∀ j, j < k → row j < row k

/-- A row has one first maximum at most. -/
theorem IsFirstMax.unique {n : Nat} {row : Fin n → EReal} {k k' : Fin n} (h : IsFirstMax row k) (h' : IsFirstMax row k') :
    k = k' := by
  rcases lt_trichotomy k k' with hlt | heq | hgt
  · exact absurd (h.1 k') (not_le.2 (h'.2 k hlt))
  · exact heq
  · exact absurd (h'.1 k) (not_le.2 (h.2 k' hgt))

/-- A nonempty row has a first maximum. -/
theorem exists_isFirstMax {n : Nat} (row : Fin (n + 1) → EReal) : ∃ k, IsFirstMax row k := by
  obtain ⟨m, _, hm⟩ := Finset.exists_max_image Finset.univ row ⟨0, Finset.mem_univ _⟩
  have hne : (Finset.univ.filter fun k => row k = row m).Nonempty := ⟨m, by simp⟩
  have hmem := Finset.min'_mem _ hne
  have heq : row (Finset.min' _ hne) = row m := (Finset.mem_filter.1 hmem).2
  refine ⟨Finset.min' _ hne, fun j => (hm j (Finset.mem_univ _)).trans_eq heq.symm, fun j hj => ?_⟩
  refine lt_of_le_of_ne ((hm j (Finset.mem_univ _)).trans_eq heq.symm) fun e => ?_
  exact absurd (Finset.min'_le _ j (Finset.mem_filter.2 ⟨Finset.mem_univ _, e.trans heq⟩)) (not_le.2 hj)

/-- The class of a row of 100 scores: the first place of its maximum. -/
def label (row : Fin 100 → EReal) : Fin 100 := Classical.choose (exists_isFirstMax row)

/-- `label row` is the first maximum of `row`. -/
theorem label_isFirstMax (row : Fin 100 → EReal) : IsFirstMax row (label row) :=
  Classical.choose_spec (exists_isFirstMax row)

/-- One if row `r` is of row 0's class, else zero. -/
def same (y : Fin 8192 → Fin 100 → EReal) (r : Fin 8192) : EReal := if label (y r) = label (y 0) then 1 else 0

/-- Bin `k` of the histogram of the distances of rows 1, …, 8191. -/
def hist (x : Fin 8192 → Fin 128 → EReal) (k : Fin 128) : EReal :=
  ∑ r : Fin 8191, tri (center k) (sqDist x r.succ)

/-- Bin `k` of the histogram of the distances of those of rows 1, …, 8191 that are of row 0's class. -/
def histSame (x : Fin 8192 → Fin 128 → EReal) (y : Fin 8192 → Fin 100 → EReal) (k : Fin 128) : EReal :=
  ∑ r : Fin 8191, tri (center k) (sqDist x r.succ) * same y r.succ

/-- The number of rows of row 0's class, row 0 among them. -/
def count (y : Fin 8192 → Fin 100 → EReal) : EReal := ∑ r, same y r

/-- The running sum of a histogram: bins `0` to `k`. -/
def cum (h : Fin 128 → EReal) (k : Fin 128) : EReal := ∑ i : Fin 128, if i ≤ k then h i else 0

/-- The result: the sum over the bins of the same-class mass times its running sum over the total running sum (with a
    small constant added), divided by the number of rows of row 0's class. -/
def loss (x : Fin 8192 → Fin 128 → EReal) (y : Fin 8192 → Fin 100 → EReal) : EReal :=
  Ideal.div (∑ k, Ideal.div (histSame x y k * cum (histSame x y) k) (cum (hist x) k + Ideal.ofBits .f32 0x33D6BF95#32))
    (count y)

end Cert.Spec
-- ==== Proof.RefRun.lean ====
/- What the reference leaves in its result, as a composition of named stages: class labels, which rows share row 0's
   class, the triangular bin weights of the other rows, the two histograms, their running sums and the final quotient.
   `run` states that the reference terminates with that composition of its first and fourth arguments. -/
module

public import proofs.«01_k».proof.Proof.Gen.ReferenceIdeal
public import proofs.«01_k».proof.Defs
public import Idealize.ShloMosaic.Lib.Claim

@[expose] public section

set_option maxRecDepth 16384

noncomputable section

namespace Cert.Reference

open Cert.ReferenceIdeal Cert.ReferenceIdeal.Facts Cert.ReferenceIdeal.Facts₀ Idealize.ShloMosaic Idealize.ShloMosaic.TcCoe Idealize.SL.Sem

attribute [local instance] Cert.ReferenceIdeal.Gen.facts

/-- The scalar zero that every sum of the reference starts from. -/
def zero : FVec Ideal S_ .f32 := constant S_ .f32 0x00000000#32

/-- The class of every row: the position of the row's maximum. -/
def labels (y : FVec Ideal S8192x100 .f32) : IVec S8192 32 := fun j =>
  (Host.argReduce reducer_argmax_f32_i32 y (iotaInDim S8192x100 32 1) (constant S_ .f32 0xFF800000#32) (constantI S_ 32 0#32)
    reducesTo_S8192x100_S8192_d1 h_S_ j).2

/-- Entry `(i, j)` says whether rows `i` and `j` have one class. -/
def neighbors (l : IVec S8192 32) : IVec S8192x8192 1 :=
  cmpi .eq (broadcastInDim S8192x8192 ![0, 1] bcast_S1x8192_S8192x8192_0_1 (broadcastInDim S1x8192 ![1] bcast_S8192_S1x8192_1 l))
    (broadcastInDim S8192x8192 ![0, 1] bcast_S8192x1_S8192x8192_0_1 (broadcastInDim S8192x1 ![0] bcast_S8192_S8192x1_0 l))

/-- Row 0 of `neighbors` without its first entry, as numbers. -/
def sameRest (l : IVec S8192 32) : FVec Ideal S8191 .f32 :=
  uitofp .f32 (shapeCast S8191 (extractStridedSlice S1x8191 ![0, 1] (neighbors l) slices_S8192x8192_S1x8191_0_1) shapeCasts_S1x8191_S8191)

/-- Row 0 of `neighbors`, as numbers. -/
def sameAll (l : IVec S8192 32) : FVec Ideal S8192 .f32 :=
  uitofp .f32 (shapeCast S8192 (extractStridedSlice S1x8192 ![0, 0] (neighbors l) slices_S8192x8192_S1x8192_0_0) shapeCasts_S1x8192_S8192)

/-- Every row but the first, minus the first row. -/
def offsets (x : FVec Ideal S8192x128 .f32) : FVec Ideal S8191x128 .f32 :=
  subf (extractStridedSlice S8191x128 ![1, 0] x slices_S8192x128_S8191x128_1_0)
    (broadcastInDim S8191x128 ![0, 1] bcast_S1x128_S8191x128_0_1 (broadcastInDim S1x128 ![1] bcast_S128_S1x128_1
      (shapeCast S128 (extractStridedSlice S1x128 ![0, 0] x slices_S8192x128_S1x128_0_0) shapeCasts_S1x128_S128)))

/-- The squared distance of every row but the first from the first row. -/
def dists (x : FVec Ideal S8192x128 .f32) : FVec Ideal S8191 .f32 :=
  Host.reduceAdd (mulf (offsets x) (offsets x)) zero reducesTo_S8191x128_S8191_d1 h_S_

/-- The table of bin centres. -/
def bins : FVec Ideal S128 .f32 := fun i => FloatOps.ofBits .f32 (lit0 (S128.rowMajor i))

/-- One minus the distance from a bin's centre, in bin widths. -/
def slope (d : FVec Ideal S8191 .f32) : FVec Ideal S8191x128 .f32 :=
  subf (broadcastInDim S8191x128 ![] bcast_S_S8191x128 (constant S_ .f32 0x3F800000#32))
    (Host.divf (Host.absf (subf
        (broadcastInDim S8191x128 ![0, 1] bcast_S1x128_S8191x128_0_1 (broadcastInDim S1x128 ![1] bcast_S128_S1x128_1 bins))
        (broadcastInDim S8191x128 ![0, 1] bcast_S8191x1_S8191x128_0_1 (broadcastInDim S8191x1 ![0] bcast_S8191_S8191x1_0 d))))
      (broadcastInDim S8191x128 ![] bcast_S_S8191x128 (constant S_ .f32 0x40800000#32)))

/-- The bin weights: `slope` with its negative entries replaced by zero. -/
def weights (x : FVec Ideal S8192x128 .f32) : FVec Ideal S8191x128 .f32 :=
  select (cmpf .olt (slope (dists x)) (broadcastInDim S8191x128 ![] bcast_S_S8191x128 zero))
    (broadcastInDim S8191x128 ![] bcast_S_S8191x128 zero) (slope (dists x))

/-- The histogram of all rows but the first. -/
def hist (x : FVec Ideal S8192x128 .f32) : FVec Ideal S128 .f32 :=
  Host.reduceAdd (weights x) zero reducesTo_S8191x128_S128_d0 h_S_

/-- The histogram of those rows that share row 0's class. -/
def histSame (x : FVec Ideal S8192x128 .f32) (y : FVec Ideal S8192x100 .f32) : FVec Ideal S128 .f32 :=
  Host.reduceAdd (mulf (weights x) (broadcastInDim S8191x128 ![0, 1] bcast_S8191x1_S8191x128_0_1
    (broadcastInDim S8191x1 ![0] bcast_S8191_S8191x1_0 (sameRest (labels y))))) zero reducesTo_S8191x128_S128_d0 h_S_

/-- Running sums over the bins. -/
def running (h : FVec Ideal S128 .f32) : FVec Ideal S128 .f32 :=
  Host.reduceWindowAdd ![128] ![1] ![127] ![0] h (broadcastInDim S_ ![] bcast_S_S_ zero) reduceWindows_S128_S128_w128s1p127_0 h_S_

/-- The number of rows that share row 0's class, row 0 among them. -/
def count (y : FVec Ideal S8192x100 .f32) : FVec Ideal S_ .f32 :=
  Host.reduceAdd (sameAll (labels y)) zero reducesTo_S8192_S_d0 h_S_

/-- The reference's result. -/
def loss (x : FVec Ideal S8192x128 .f32) (y : FVec Ideal S8192x100 .f32) : FVec Ideal S_ .f32 :=
  Host.divf (Host.reduceAdd
      (Host.divf (mulf (histSame x y) (running (histSame x y)))
        (addf (running (hist x)) (broadcastInDim S128 ![] bcast_S_S128 (constant S_ .f32 0x33D6BF95#32))))
      zero reducesTo_S128_S_d0 h_S_)
    (count y)

set_option maxHeartbeats 4000000 in
/-- The reference terminates with `loss` of its first and fourth arguments in its result, its arguments as they were. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v64)
        = loss (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  hlo_run
  simp only [StableHlo.TRef.ofBuf_toBuf]
  rfl

set_option maxHeartbeats 4000000 in
/-- The reference terminates with its arguments as they were; it has no semaphore. -/
theorem frame : Cert.quiescent_ReferenceIdeal (hReferenceIdeal := Cert.ReferenceIdeal.Gen.facts) := fun m ρ _ =>
  (θ_run (defs (F := Ideal)) _ _).mono (fun r h => ⟨fun c => (h c).2, sem_eq_zero_of_no_sems (by decide) r.2⟩) (run m ρ)

end Cert.Reference

end
-- ==== Proof.Labels.lean ====
/- The two ways the class label of a row is computed, each shown to give the word of the first maximum: the
   reference folds (score, index) pairs, keeping the larger score and on equal scores the smaller index; the kernel takes
   the least index among those whose score equals the row's maximum. -/
module

public import proofs.«01_k».proof.Proof.Spec
public import proofs.«01_k».proof.Proof.RefRun
public import Idealize.ShloMosaic.Lib.Pointwise

@[expose] public section

set_option maxRecDepth 16384

noncomputable section

namespace Cert.Labels

open Idealize.ShloMosaic Cert.Spec

/-! ### The fold over (score, index) pairs -/

/-- `a` comes no later than `b`: a larger score, or an equal one at an index no larger. -/
def NoWorse (a b : EReal × BitVec 32) : Prop := b.1 < a.1 ∨ b.1 = a.1 ∧ a.2.toInt ≤ b.2.toInt

/-- A pair is no worse than itself. -/
theorem NoWorse.refl (a : EReal × BitVec 32) : NoWorse a a := .inr ⟨rfl, le_rfl⟩

/-- A pair no worse than one that is no worse than a third is no worse than the third. -/
theorem NoWorse.trans {a b c : EReal × BitVec 32} (h : NoWorse a b) (h' : NoWorse b c) : NoWorse a c := by
  rcases h with h | ⟨h, i⟩ <;> rcases h' with h' | ⟨h', i'⟩
  · exact .inl (h'.trans h)
  · exact .inl (h' ▸ h)
  · exact .inl (h ▸ h')
  · exact .inr ⟨h'.trans h, i.trans i'⟩

/-- A step that returns one of its arguments, no worse than either, folds to a member no worse than every member. -/
theorem foldl_noWorse (f : EReal × BitVec 32 → EReal × BitVec 32 → EReal × BitVec 32)
    (hf : ∀ a b, (f a b = a ∨ f a b = b) ∧ NoWorse (f a b) a ∧ NoWorse (f a b) b) (L : List (EReal × BitVec 32)) :
    ∀ a, (L.foldl f a = a ∨ L.foldl f a ∈ L) ∧ NoWorse (L.foldl f a) a ∧ ∀ p ∈ L, NoWorse (L.foldl f a) p := by
  induction L with
  | nil => exact fun a => ⟨.inl rfl, .refl a, by simp⟩
  | cons b L ih =>
    intro a
    obtain ⟨hm, ha, hL⟩ := ih (f a b)
    obtain ⟨hab, h1, h2⟩ := hf a b
    refine ⟨?_, ha.trans h1, fun p hp => ?_⟩
    · rcases hm with hm | hm
      · rcases hab with e | e
        · exact .inl (hm.trans e)
        · exact .inr (List.mem_cons.2 (.inl (hm.trans e)))
      · exact .inr (List.mem_cons_of_mem _ hm)
    · rcases List.mem_cons.1 hp with e | hp
      · exact e ▸ ha.trans h2
      · exact hL p hp

/-- The word of an index below 100 as a signed integer. -/
theorem toInt_ofNat (k : Fin 100) : (BitVec.ofNat 32 k.val).toInt = k.val := by
  revert k
  decide

/-- Words of indices below 100 are equal exactly when the indices are. -/
theorem ofNat_inj (k j : Fin 100) : BitVec.ofNat 32 k.val = BitVec.ofNat 32 j.val ↔ k = j := by
  refine ⟨fun h => Fin.ext ?_, fun h => h ▸ rfl⟩
  have := congrArg BitVec.toInt h
  rw [toInt_ofNat, toInt_ofNat] at this
  exact_mod_cast this

/-- The pair that is no worse than the start `(⊥, 0)` and than every pair of the row, and is one of these, holds the
    word of the row's first maximum. -/
theorem snd_eq_label (row : Fin 100 → EReal) (p : EReal × BitVec 32)
    (hm : p = (⊥, 0#32) ∨ ∃ k : Fin 100, p = (row k, BitVec.ofNat 32 k.val))
    (h : ∀ k : Fin 100, NoWorse p (row k, BitVec.ofNat 32 k.val)) : p.2 = BitVec.ofNat 32 (label row).val := by
  have key : ∃ k : Fin 100, p = (row k, BitVec.ofNat 32 k.val) := by
    rcases hm with rfl | hk
    · refine ⟨0, ?_⟩
      rcases h 0 with h | ⟨h, _⟩
      · exact absurd h (by simp)
      · simp only at h; rw [h]; rfl
    · exact hk
  obtain ⟨k, rfl⟩ := key
  have hk : IsFirstMax row k := by
    refine ⟨fun j => ?_, fun j hj => ?_⟩
    · rcases h j with h | ⟨h, _⟩
      · exact h.le
      · exact h.le
    · rcases h j with h | ⟨_, h⟩
      · exact h
      · simp only [toInt_ofNat] at h
        exact absurd hj (by rw [Fin.lt_def]; omega)
  rw [hk.unique (label_isFirstMax row)]

/-! ### The least index of the maximum -/

/-- The bit pattern of minus infinity. -/
theorem ofBits_neg_inf : Ideal.ofBits .f32 0xFF800000#32 = ⊥ := by
  simp [Ideal.ofBits, Ideal.ieee]

/-- The maximum of a row, started at minus infinity, is the score at its first maximum. -/
theorem fold_max_eq (row : Fin 100 → EReal) :
    Finset.fold max (Ideal.ofBits .f32 0xFF800000#32) row Finset.univ = row (label row) := by
  rw [ofBits_neg_inf]
  refine le_antisymm ?_ ?_
  · exact Finset.fold_max_le _ |>.2 ⟨bot_le, fun j _ => (label_isFirstMax row).1 j⟩
  · exact Finset.le_fold_max _ |>.2 (.inr ⟨label row, Finset.mem_univ _, le_rfl⟩)

/-- The signed minimum of two words is the minimum of the signed integers. -/
theorem toInt_minsi (a b : BitVec 32) : (IntOp.minsi a b).toInt = min a.toInt b.toInt := by
  unfold IntOp.minsi
  rw [BitVec.slt_eq_decide]
  by_cases h : a.toInt < b.toInt
  · simp [h, h.le]
  · simp [h, not_lt.1 h]

/-- The least word among those of the indices at which a row attains its maximum (every other index counting as 100) is
    the word of the first maximum. -/
theorem fold_min_eq (row : Fin 100 → EReal) :
    Finset.fold IntOp.minsi 2147483647#32
        (fun x : Fin 100 => if row x = Finset.fold max (Ideal.ofBits .f32 0xFF800000#32) row Finset.univ
          then BitVec.ofNat 32 x.val else 100#32) Finset.univ
      = BitVec.ofNat 32 (label row).val := by
  refine BitVec.eq_of_toInt_eq ?_
  rw [← Finset.fold_hom (op' := min) (m := BitVec.toInt) toInt_minsi, fold_max_eq, toInt_ofNat]
  have hl := (label row).isLt
  refine le_antisymm ?_ ?_
  · refine Finset.fold_min_le _ |>.2 (.inr ⟨label row, Finset.mem_univ _, ?_⟩)
    rw [if_pos rfl, toInt_ofNat]
  · refine Finset.le_fold_min _ |>.2 ⟨?_, fun j _ => ?_⟩
    · rw [show (2147483647#32).toInt = 2147483647 by decide]; omega
    · split
      · next h =>
        rw [toInt_ofNat]
        have : ¬ j < label row := fun hj => absurd h ((label_isFirstMax row).2 j hj).ne
        rw [Fin.lt_def] at this
        omega
      · rw [show (100#32).toInt = 100 by decide]; omega

end Cert.Labels

namespace Cert.Reference

open Cert.ReferenceIdeal Cert.ReferenceIdeal.Facts Cert.ReferenceIdeal.Facts₀ Idealize.ShloMosaic Idealize.ShloMosaic.TcCoe Cert.Spec Cert.Labels

attribute [local instance] Cert.ReferenceIdeal.Gen.facts

/-- The reference's step on two pairs returns one of them, no worse than either. -/
theorem reducer_noWorse (a b : EReal × BitVec 32) :
    (reducer_argmax_f32_i32 (F := Ideal) a b = a ∨ reducer_argmax_f32_i32 (F := Ideal) a b = b)
      ∧ NoWorse (reducer_argmax_f32_i32 (F := Ideal) a b) a ∧ NoWorse (reducer_argmax_f32_i32 (F := Ideal) a b) b := by
  have e : reducer_argmax_f32_i32 (F := Ideal) a b
      = if b.1 < a.1 ∨ b.1 = a.1 ∧ a.2.toInt < b.2.toInt then a else b := by
    simp only [reducer_argmax_f32_i32, Ideal.cmpf_def, Ideal.cmp, IntOp.ori, IntOp.andi, IntOp.cmpi, Scalar.select,
      BitVec.slt_eq_decide]
    by_cases hlt : b.1 < a.1 <;> by_cases heq : a.1 = b.1 <;> by_cases hi : a.2.toInt < b.2.toInt <;>
      simp [hlt, heq, hi, eq_comm, Prod.ext_iff] <;> trace_state
  rw [e]
  split
  · next h => exact ⟨.inl rfl, .refl a, h.imp id fun h => ⟨h.1, h.2.le⟩⟩
  · next h =>
    refine ⟨.inr rfl, ?_, .refl b⟩
    rcases lt_trichotomy a.1 b.1 with hl | he | hg
    · exact .inl hl
    · exact .inr ⟨he, not_lt.1 fun hc => h (.inr ⟨he.symm, hc⟩)⟩
    · exact absurd (.inl hg) h

/-- The reference's class label of row `r` is the word of the first maximum of the row's scores. -/
theorem labels_apply (y : FVec Ideal S8192x100 .f32) (r : Fin 8192) :
    labels y (ix1 r) = BitVec.ofNat 32 (label fun k => y (ix2 r k)).val := by
  unfold labels
  rw [Ideal.argReduce_eq_reduce2, Host.reduce2_eq_foldl_fiber]
  have hmem : ∀ p, p ∈ Host.argReduceFiber y (iotaInDim S8192x100 32 1) reducesTo_S8192x100_S8192_d1 (ix1 r)
      ↔ ∃ k : Fin 100, p = (y (ix2 r k), BitVec.ofNat 32 k.val) := by
    intro p
    simp only [Host.argReduceFiber, List.mem_map, List.mem_filter, List.mem_finRange, true_and, decide_eq_true_eq]
    constructor
    · rintro ⟨n, hn, rfl⟩
      generalize S8192x100.rowMajor.symm n = i at hn ⊢
      have h0 := congrArg (fun j : S8192.Idx => (j 0 : Nat)) hn
      simp only [reducesTo_S8192x100_S8192_d1.drop_apply_val_of_eq i 0 0] at h0
      refine ⟨i 1, ?_⟩
      have e : i = ix2 r (i 1) := (eq_ix2 i).trans (by rw [show i 0 = r from Fin.ext h0]; rfl)
      rw [e]
      rfl
    · rintro ⟨k, rfl⟩
      refine ⟨S8192x100.rowMajor (ix2 r k), ?_, ?_⟩
      · rw [Equiv.symm_apply_apply, eq_ix1 (Shape.ReducesTo.drop _ _)]
        refine congrArg ix1 (Fin.ext ?_)
        rw [reducesTo_S8192x100_S8192_d1.drop_apply_val_of_eq _ 0 0]
        rfl
      · rw [Equiv.symm_apply_apply]
        rfl
  obtain ⟨h1, _, h3⟩ := foldl_noWorse _ reducer_noWorse
    (Host.argReduceFiber y (iotaInDim S8192x100 32 1) reducesTo_S8192x100_S8192_d1 (ix1 r)) (⊥, 0#32)
  have hinit : (constant (F := Ideal) S_ .f32 0xFF800000#32 (Shape.Idx.first h_S_), constantI S_ 32 0#32 (Shape.Idx.first h_S_))
      = ((⊥ : EReal), 0#32) := by
    simp [constant, constantI, Ideal.ofBits, Ideal.ieee]
  rw [hinit]
  exact snd_eq_label (fun k => y (ix2 r k)) _ (h1.imp id fun h => (hmem _).1 h) fun k => h3 _ ((hmem _).2 ⟨k, rfl⟩)

end Cert.Reference
-- ==== Proof.Running.lean ====
/- The reference's running sum over the bins: each bin's windowed sum of the bins padded on the left is the sum of the
   bins up to it. -/
module

public import proofs.«01_k».proof.Proof.Spec
public import proofs.«01_k».proof.Proof.RefRun
public import Idealize.ShloMosaic.Lib.Pointwise

@[expose] public section

set_option maxRecDepth 16384

noncomputable section

namespace Cert.Reference

open Cert.ReferenceIdeal Cert.ReferenceIdeal.Facts Cert.ReferenceIdeal.Facts₀ Idealize.ShloMosaic Idealize.ShloMosaic.TcCoe

attribute [local instance] Cert.ReferenceIdeal.Gen.facts

/-- Adding up a function along a list with a fold. -/
theorem foldl_add_eq {ι : Type} (f : ι → EReal) (L : List ι) (a : EReal) : L.foldl (fun r n => r + f n) a = a + (L.map f).sum := by
  induction L generalizing a with
  | nil => simp
  | cons n L ih => rw [List.foldl_cons, ih, List.map_cons, List.sum_cons, add_assoc]

/-- What position `n` of the window ending at bin `k` adds: the bin `127 - n` places before `k`, or zero before bin 0. -/
def term (h : FVec Ideal S128 .f32) (k n : Fin 128) : EReal :=
  if hn : 127 ≤ k.val + n.val then h (ix1 ⟨k.val + n.val - 127, by omega⟩) else 0

/-- The terms of a window add up to the running sum. -/
theorem sum_term (h : FVec Ideal S128 .f32) (k : Fin 128) : ∑ n, term h k n = Spec.cum (fun i => h (ix1 i)) k := by
  have hk := k.isLt
  refine Fintype.sum_equiv (Equiv.addRight (k + 1)) _ _ fun n => ?_
  have hn := n.isLt
  have hv : (Equiv.addRight (k + 1) n).val = (n.val + (k.val + 1)) % 128 := by
    show (n + (k + 1)).val = _
    rw [Fin.val_add, Fin.val_add]
    show (n.val + (k.val + 1) % 128) % 128 = _
    omega
  unfold term
  by_cases hc : 127 ≤ k.val + n.val
  · rw [dif_pos hc, if_pos (by rw [Fin.le_def, hv]; omega)]
    show h _ = h _
    refine congrArg h (congrArg ix1 (Fin.ext ?_))
    rw [hv]
    show k.val + n.val - 127 = _
    omega
  · rw [dif_neg hc, if_neg (by rw [Fin.le_def, hv]; omega)]

/-- The running sum of a vector of bins: a window of 128 bins ending at bin `k`, the bins before bin 0 counting zero. -/
theorem running_apply (h : FVec Ideal S128 .f32) (k : Fin 128) : running h (ix1 k) = Spec.cum (fun i => h (ix1 i)) k := by
  have hk := k.isLt
  have hz : broadcastInDim S_ ![] bcast_S_S_ zero (Shape.Idx.first h_S_) = (0 : EReal) := by
    pointwise [zero]
  have e : running h (ix1 k) = (List.finRange S128.numel).foldl (fun r n => r + term h k (S128.rowMajor.symm n 0)) 0 := by
    unfold running Host.reduceWindowAdd
    rw [Ideal.hostReduceWindowAdd_def, hz]
    unfold Ideal.hostReduceWindowAdd Host.reduceWindow
    dsimp only
    refine congrArg (fun f => List.foldl f (0 : EReal) (List.finRange S128.numel)) (funext fun r => funext fun n => congrArg (r + ·) ?_)
    have hm0 : (S128.rowMajor.symm n 0).val < 128 := (S128.rowMajor.symm n 0).isLt
    unfold term
    by_cases hc : 127 ≤ k.val + (S128.rowMajor.symm n 0).val
    · rw [dif_pos hc, dif_pos (by
        intro a
        match a with
        | ⟨0, _⟩ =>
          show 127 ≤ k.val * 1 + (S128.rowMajor.symm n 0).val ∧ k.val * 1 + (S128.rowMajor.symm n 0).val - 127 < 128
          omega)]
      refine congrArg h (funext fun a => Fin.ext ?_)
      match a with
      | ⟨0, _⟩ =>
        show k.val * 1 + (S128.rowMajor.symm n 0).val - 127 = k.val + (S128.rowMajor.symm n 0).val - 127
        omega
    · rw [dif_neg hc, dif_neg (by
        intro ha
        have h0 := (ha 0).1
        change 127 ≤ k.val * 1 + (S128.rowMajor.symm n 0).val at h0
        omega)]
  rw [e, foldl_add_eq, zero_add, ← Fin.sum_univ_def, ← sum_term h k]
  refine Fintype.sum_equiv (S128.rowMajor.symm.trans ⟨fun i => i 0, fun i => ix1 i, fun i => ix1_eta i, fun i => rfl⟩) _ _ fun n => rfl

end Cert.Reference
-- ==== Proof.Words.lean ====
/- Bit patterns and integer words read as the numbers they stand for: the bin centres (a table on one side, an affine
   expression of the bin number on the other), the slope, the row number of a block's row, and 0/1 flags. -/
module

public import proofs.«01_k».proof.Proof.Spec
public import proofs.«01_k».proof.ReferenceIdeal
public import Idealize.ShloMosaic.Lib.Pointwise

@[expose] public section

set_option maxRecDepth 16384

noncomputable section

namespace Cert.Words

open Idealize.ShloMosaic Cert.Spec

/-- A positive normal pattern whose significand, scaled, is the whole number `v` denotes `v`. -/
theorem ofBits_nat (b : BitVec 32) (v : Nat)
    (h : (b.extractLsb' 31 1 == 1#1) = false ∧ (b.extractLsb' 23 8).toNat ≠ 255 ∧ (b.extractLsb' 23 8).toNat ≠ 0
      ∧ (b.extractLsb' 23 8).toNat ≤ 150
      ∧ 2 ^ 23 + (b.extractLsb' 0 23).toNat = v * 2 ^ (150 - (b.extractLsb' 23 8).toNat)) :
    Ideal.ofBits .f32 b = ((v : ℝ) : EReal) := by
  obtain ⟨h1, h2, h3, h4, h5⟩ := h
  simp only [Ideal.ofBits, Ideal.ieee]
  rw [h1, if_neg (by simpa using h2), if_neg h3]
  refine congrArg Real.toEReal ?_
  rw [show (2 ^ 23 + (b.extractLsb' 0 23).toNat : Nat) = v * 2 ^ (150 - (b.extractLsb' 23 8).toNat) from h5]
  have e : ((b.extractLsb' 23 8).toNat : Int) - (2 ^ (8 - 1) - 1) - (23 : Nat)
      = -((150 - (b.extractLsb' 23 8).toNat : Nat) : Int) := by
    rw [Nat.cast_sub h4]; push_cast; ring
  rw [e, zpow_neg, zpow_natCast]
  push_cast
  have : (2 : ℝ) ^ (150 - (b.extractLsb' 23 8).toNat) ≠ 0 := pow_ne_zero _ two_ne_zero
  field_simp

/-- Entry `k` of the reference's table is the centre of bin `k`. -/
theorem table_eq (k : Fin 128) : Ideal.ofBits .f32 (Cert.ReferenceIdeal.lit0 k) = center k := by
  rw [ofBits_nat (Cert.ReferenceIdeal.lit0 k) (2 + 4 * k.val) (by revert k; decide +kernel)]
  unfold center
  push_cast
  rfl

/-- The pattern of two. -/
theorem ofBits_two : Ideal.ofBits .f32 0x40000000#32 = ((2 : ℝ) : EReal) := by
  rw [ofBits_nat _ 2 (by decide)]; norm_num

/-- The pattern of four. -/
theorem ofBits_four : Ideal.ofBits .f32 0x40800000#32 = ((4 : ℝ) : EReal) := by
  rw [ofBits_nat _ 4 (by decide)]; norm_num

/-- The pattern of a quarter. -/
theorem ofBits_quarter : Ideal.ofBits .f32 0x3E800000#32 = (((1 : ℝ) / 4 : ℝ) : EReal) := by
  simp [Ideal.ofBits, Ideal.ieee, -EReal.coe_mul]; norm_num

/-- A small natural number's word is that number, read signed. -/
theorem toInt_word {n : Nat} (h : n < 2 ^ 31) : (BitVec.ofNat 32 n).toInt = n := by
  rw [BitVec.toInt_eq_toNat_cond, BitVec.toNat_ofNat, Nat.mod_eq_of_lt (by omega), if_pos (by omega)]

/-- The number of a bin as a float. -/
theorem sitofp_word {n : Nat} (h : n < 2 ^ 31) :
    FloatOps.sitofp (F := Ideal) .f32 (BitVec.ofNat 32 n) = (((n : ℝ)) : EReal) := by
  show (((BitVec.ofNat 32 n).toInt : ℝ) : EReal) = _
  rw [toInt_word h]; simp

/-- Two plus four times the bin number is the bin's centre. -/
theorem affine_eq (k : Fin 128) :
    Ideal.ofBits .f32 0x40000000#32 + Ideal.ofBits .f32 0x40800000#32 * FloatOps.sitofp (F := Ideal) .f32 (BitVec.ofNat 32 k.val)
      = center k := by
  rw [ofBits_two, ofBits_four, sitofp_word (by have := k.isLt; omega), ← EReal.coe_mul, ← EReal.coe_add]
  rfl

/-- Dividing by four is multiplying by a quarter. -/
theorem div_four (a : EReal) : Ideal.div a (Ideal.ofBits .f32 0x40800000#32) = a * (((1 : ℝ) / 4 : ℝ) : EReal) := by
  rw [ofBits_four]
  unfold Ideal.div
  rw [if_neg (by simp), ← EReal.coe_inv, one_div]

/-- A signed comparison of small words is the comparison of the numbers. -/
theorem sge_iff {k s : Nat} (hk : k < 2 ^ 31) (hs : s < 2 ^ 31) :
    IntOp.cmpi .sge (BitVec.ofNat 32 k) (BitVec.ofNat 32 s) = if s ≤ k then 1#1 else 0#1 := by
  simp only [IntOp.cmpi, BitVec.sle_eq_decide, toInt_word hk, toInt_word hs, Nat.cast_le]
  by_cases h : s ≤ k <;> simp [h]

/-- A one-bit flag widened to a word and made a float is one or zero. -/
theorem flag_word (p : Prop) [Decidable p] :
    FloatOps.sitofp (F := Ideal) .f32 ((if p then 1#1 else 0#1 : BitVec 1).setWidth 32) = if p then (1 : EReal) else 0 := by
  show (((((if p then 1#1 else 0#1 : BitVec 1).setWidth 32).toInt : ℝ)) : EReal) = _
  by_cases h : p <;> simp [h]

/-- A one-bit flag made a float is one or zero. -/
theorem flag_bit (p : Prop) [Decidable p] :
    FloatOps.uitofp (F := Ideal) .f32 (if p then 1#1 else 0#1 : BitVec 1) = if p then (1 : EReal) else 0 := by
  show (((((if p then 1#1 else 0#1 : BitVec 1)).toNat : ℝ)) : EReal) = _
  by_cases h : p <;> simp [h]

/-- The number of row `r` of block `i`, as the words are added. -/
theorem row_word (i r : Nat) :
    IntOp.addi (Scalar.muli (BitVec.ofNat 32 i) 1024#32) (BitVec.ofNat 32 r) = BitVec.ofNat 32 (i * 1024 + r) := by
  simp only [IntOp.addi, Scalar.muli, IntOp.muli, BitVec.ofNat_add, BitVec.ofNat_mul]

end Cert.Words
-- ==== Proof.RefValue.lean ====
/- The stages of the reference read at an index, and from them the equation of the reference's result with the
   specification. -/
module

public import proofs.«01_k».proof.Proof.Labels
public import proofs.«01_k».proof.Proof.Running
public import proofs.«01_k».proof.Proof.Words

@[expose] public section

set_option maxRecDepth 16384

noncomputable section

namespace Cert.Reference

open Cert.ReferenceIdeal Cert.ReferenceIdeal.Facts Cert.ReferenceIdeal.Facts₀ Idealize.ShloMosaic Idealize.ShloMosaic.TcCoe Cert.Words

attribute [local instance] Cert.ReferenceIdeal.Gen.facts

/-- A vector over the rows and its columns as a function of the row and the column. -/
def rows {n : Nat} (x : FVec Ideal ⟨2, ![8192, n]⟩ .f32) (r : Fin 8192) (k : Fin n) : EReal := x (ix2 r k)

/-- Row `1 + r` is the successor of row `r`. -/
theorem row_succ (r : Fin 8191) (h : 1 + r.val < 8192) : (⟨1 + r.val, h⟩ : Fin 8192) = r.succ :=
  Fin.ext (Nat.add_comm 1 r.val)

/-- Equality of two class labels as a float. -/
theorem same_word (a b : Fin 100) :
    FloatOps.uitofp (F := Ideal) .f32 (IntOp.cmpi .eq (BitVec.ofNat 32 a.val) (BitVec.ofNat 32 b.val))
      = if a = b then (1 : EReal) else 0 := by
  rw [← flag_bit]
  simp only [IntOp.cmpi, beq_eq_decide, Labels.ofNat_inj]
  by_cases h : a = b <;> simp [h]

/-- The class flag of a row other than row 0. -/
theorem sameRest_apply (y : FVec Ideal S8192x100 .f32) (r : Fin 8191) :
    sameRest (labels y) (ix1 r) = Spec.same (rows y) r.succ := by
  pointwise [sameRest, neighbors]
  rw [row_succ, labels_apply, labels_apply, same_word]
  rfl

/-- The class flag of a row. -/
theorem sameAll_apply (y : FVec Ideal S8192x100 .f32) (r : Fin 8192) :
    sameAll (labels y) (ix1 r) = Spec.same (rows y) r := by
  pointwise [sameAll, neighbors]
  rw [labels_apply, labels_apply, same_word]
  rfl

/-- The squared distance of a row other than row 0. -/
theorem dists_apply (x : FVec Ideal S8192x128 .f32) (r : Fin 8191) : dists x (ix1 r) = Spec.sqDist (rows x) r.succ := by
  pointwise [dists, offsets, zero]
  simp only [row_succ]
  rfl

/-- A number with its negative values replaced by zero. -/
theorem ite_neg_eq_max (a : EReal) : (if a < 0 then 0 else a) = max a 0 := by
  split
  · next h => exact (max_eq_right h.le).symm
  · next h => exact (max_eq_left (not_lt.1 h)).symm

/-- The weight of a row other than row 0 in a bin. -/
theorem weights_apply (x : FVec Ideal S8192x128 .f32) (r : Fin 8191) (k : Fin 128) :
    weights x (ix2 r k) = Spec.tri (Spec.center k) (Spec.sqDist (rows x) r.succ) := by
  pointwise [weights, slope, zero, bins]
  rw [show S128.rowMajor (ix1 k) = k from Fin.ext (Shape.rowMajor_val_one _), table_eq, dists_apply, div_four, ite_neg_eq_max]
  rfl

/-- The histogram. -/
theorem hist_apply (x : FVec Ideal S8192x128 .f32) (k : Fin 128) : hist x (ix1 k) = Spec.hist (rows x) k := by
  pointwise [hist, zero]
  exact Finset.sum_congr rfl fun r _ => weights_apply x r k

/-- The histogram of row 0's class. -/
theorem histSame_apply (x : FVec Ideal S8192x128 .f32) (y : FVec Ideal S8192x100 .f32) (k : Fin 128) :
    histSame x y (ix1 k) = Spec.histSame (rows x) (rows y) k := by
  pointwise [histSame, zero]
  refine Finset.sum_congr rfl fun r _ => ?_
  rw [weights_apply, sameRest_apply]

/-- The number of rows of row 0's class. -/
theorem count_apply (y : FVec Ideal S8192x100 .f32) (j : S_.Idx) : count y j = Spec.count (rows y) := by
  pointwise [count, zero]
  exact Finset.sum_congr rfl fun r _ => sameAll_apply y r

/-- The reference's result is the specification's. -/
theorem loss_eq (x : FVec Ideal S8192x128 .f32) (y : FVec Ideal S8192x100 .f32) (j : S_.Idx) :
    loss x y j = Spec.loss (rows x) (rows y) := by
  pointwise [loss, zero]
  rw [count_apply]
  simp only [running_apply, histSame_apply, hist_apply]
  rfl

end Cert.Reference
-- ==== Proof.Scan.lean ====
/- The kernel's running sum: seven rounds, in each of which a lane adds the lane 1, 2, 4, …, 64 to its left if there is
   one. Their composition is the running sum of the specification. -/
module

public import proofs.«01_k».proof.Proof.Words
public import proofs.«01_k».proof.Proof.Gen.KernelIdeal.Skeleton

@[expose] public section

set_option maxRecDepth 16384

noncomputable section

namespace Cert.Kern

open Cert.KernelIdeal Cert.KernelIdeal.Gen Idealize.ShloMosaic Idealize.ShloMosaic.TcCoe Cert.Spec Cert.Words

/-- The sum of the last `w` entries up to and including entry `k`. -/
def window (h : Fin 128 → EReal) (w : Nat) (k : Fin 128) : EReal :=
  ∑ i : Fin 128, if i.val ≤ k.val ∧ k.val < i.val + w then h i else 0

/-- A window of one entry is that entry. -/
theorem window_one (h : Fin 128 → EReal) (k : Fin 128) : window h 1 k = h k := by
  unfold window
  rw [Finset.sum_eq_single k]
  · rw [if_pos ⟨le_rfl, by omega⟩]
  · intro i _ hi
    rw [if_neg fun hc => hi (Fin.ext (by omega))]
  · intro hk; exact absurd (Finset.mem_univ k) hk

/-- A window of 128 entries is the running sum. -/
theorem window_all (h : Fin 128 → EReal) (k : Fin 128) : window h 128 k = cum h k := by
  refine Finset.sum_congr rfl fun i _ => ?_
  have := k.isLt
  simp only [Fin.le_def]
  by_cases hi : i.val ≤ k.val
  · rw [if_pos ⟨hi, by omega⟩, if_pos hi]
  · rw [if_neg fun hc => hi hc.1, if_neg hi]

/-- Adding the window `w` to the left doubles a window. -/
theorem window_double (h : Fin 128 → EReal) (w : Nat) (k : Fin 128) :
    window h w k + (if hw : w ≤ k.val then window h w ⟨k.val - w, by omega⟩ else 0) = window h (w + w) k := by
  unfold window
  split
  · next hw =>
    rw [← Finset.sum_add_distrib]
    refine Finset.sum_congr rfl fun i _ => ?_
    show _ + (if i.val ≤ k.val - w ∧ k.val - w < i.val + w then h i else 0) = _
    by_cases h1 : i.val ≤ k.val ∧ k.val < i.val + w
    · rw [if_pos h1, if_neg (by omega), if_pos (by omega), add_zero]
    · by_cases h2 : i.val ≤ k.val - w ∧ k.val - w < i.val + w
      · rw [if_neg h1, if_pos h2, if_pos (by omega), zero_add]
      · rw [if_neg h1, if_neg h2, if_neg (by omega), add_zero]
  · next hw =>
    rw [add_zero]
    refine Finset.sum_congr rfl fun i _ => ?_
    by_cases h1 : i.val ≤ k.val ∧ k.val < i.val + w
    · rw [if_pos h1, if_pos (by omega)]
    · rw [if_neg h1, if_neg (by omega)]

/-- The lanes shifted right by `s`, zero coming in. -/
def shifted (s : BitVec 32) (v : FVec Ideal S1x128 .f32) : FVec Ideal S1x128 .f32 :=
  select (cmpi .sge (iota .tc S1x128 32 [1] iota_S1x128_d1_w32) (broadcast S1x128 s))
    (dynamicRotate 1 s none v rotates_S1x128_d1) (broadcast S1x128 (Scalar.ofBits .f32 0x00000000#32))

/-- One round: every lane adds the lane `s` to its left. -/
def round (s : BitVec 32) (v : FVec Ideal S1x128 .f32) : FVec Ideal S1x128 .f32 := addf v (shifted s v)

/-- The shift at a lane. -/
theorem shifted_apply (s : Nat) (hs : s ≤ 64) (v : FVec Ideal S1x128 .f32) (k : Fin 128) :
    shifted (BitVec.ofNat 32 s) v (ix2 0 k) = if hk : s ≤ k.val then v (ix2 0 ⟨k.val - s, by omega⟩) else 0 := by
  pointwise [shifted]
  have hk := k.isLt
  rw [sge_iff (by omega) (by omega)]
  by_cases h : s ≤ k.val
  · rw [if_pos h, dif_pos h]
    show v _ = v _
    refine congrArg v (congrArg (ix2 0) (Fin.ext ?_))
    show (k.val + 128 - (BitVec.ofNat 32 s).toNat % 128) % 128 = k.val - s
    rw [BitVec.toNat_ofNat]
    omega
  · rw [if_neg h, dif_neg h]
    rfl

/-- One round doubles the window every lane holds. -/
theorem round_window (h : Fin 128 → EReal) (s : Nat) (hs : s ≤ 64) (v : FVec Ideal S1x128 .f32)
    (hv : ∀ k, v (ix2 0 k) = window h s k) (k : Fin 128) : round (BitVec.ofNat 32 s) v (ix2 0 k) = window h (s + s) k := by
  show v (ix2 0 k) + shifted (BitVec.ofNat 32 s) v (ix2 0 k) = _
  rw [shifted_apply s hs, hv k, ← window_double]
  congr 1
  split
  · exact hv _
  · rfl

/-- Seven rounds. -/
def scan (v : FVec Ideal S1x128 .f32) : FVec Ideal S1x128 .f32 :=
  round 64#32 (round 32#32 (round 16#32 (round 8#32 (round 4#32 (round 2#32 (round 1#32 v))))))

/-- Seven rounds leave the running sum in every lane. -/
theorem scan_apply (v : FVec Ideal S1x128 .f32) (k : Fin 128) : scan v (ix2 0 k) = cum (fun i => v (ix2 0 i)) k := by
  rw [← window_all]
  refine round_window _ 64 (by decide) _ (fun k => ?_) k
  refine round_window _ 32 (by decide) _ (fun k => ?_) k
  refine round_window _ 16 (by decide) _ (fun k => ?_) k
  refine round_window _ 8 (by decide) _ (fun k => ?_) k
  refine round_window _ 4 (by decide) _ (fun k => ?_) k
  refine round_window _ 2 (by decide) _ (fun k => ?_) k
  refine round_window _ 1 (by decide) _ (fun k => ?_) k
  exact (window_one (fun i => v (ix2 0 i)) k).symm

/-- The total's rounds, as the last grid point computes them, are the seven rounds. -/
theorem total_eq_scan (h : FVec Ideal S1x128 .f32) :
    k0_pay5 (iota .tc S1x128 32 [1] iota_S1x128_d1_w32) (k0_pay3 h) (k0_pay4 h) = scan h := rfl

/-- The result the last grid point computes, its second running sum written as the seven rounds. -/
def result (h p : FVec Ideal S1x128 .f32) (n : EReal) : EReal :=
  k0_pay2 (F := Ideal) p (k0_pay5 (iota .tc S1x128 32 [1] iota_S1x128_d1_w32) (k0_pay3 h) (k0_pay4 h))
    (iota .tc S1x128 32 [1] iota_S1x128_d1_w32) (k0_pay6 p) (k0_pay7 p) k0_pay8 n

/-- The result as a quotient of sums over the bins. -/
theorem result_eq (h p : FVec Ideal S1x128 .f32) (n : EReal) :
    result h p n = Ideal.div (∑ k : Fin 128, Ideal.div (p (ix2 0 k) * cum (fun i => p (ix2 0 i)) k)
      (cum (fun i => h (ix2 0 i)) k + Ideal.ofBits .f32 0x33D6BF95#32)) n := by
  have e : result h p n = k0_pay2 (F := Ideal) p (scan h) (iota .tc S1x128 32 [1] iota_S1x128_d1_w32) (k0_pay6 p) (k0_pay7 p) k0_pay8 n := rfl
  have e3 : k0_pay2 (F := Ideal) p (scan h) (iota .tc S1x128 32 [1] iota_S1x128_d1_w32) (k0_pay6 p) (k0_pay7 p) k0_pay8 n
      = Scalar.divf (extractAt ![0, 0, 0] (shapeCast S1x1x1 (multiReduction .add [1, 2] S1 (shapeCast S1x1x128
          (divf (mulf p (scan p)) (addf (scan h) (broadcast S1x128 (Scalar.ofBits .f32 0x33D6BF95#32)))) shapeCasts_S1x128_S1x1x128)
          0x00000000#32 reduces_S1x1x128_S1 (.inl rfl) rfl) shapeCasts_S1_S1x1x1) inpos_S1x1x1_p0_0_0) n := rfl
  rw [e, e3]
  pointwise
  simp only [scan_apply, Fin.sum_univ_one]

end Cert.Kern
-- ==== Proof.Block.lean ====
/- What one block of 1024 rows computes from its windows: the class flags, the weights of its rows in the bins (row 0 of
   the whole array counting nothing), and what it adds to the two histograms and to the count. -/
module

public import proofs.«01_k».proof.Proof.Labels
public import proofs.«01_k».proof.Proof.Scan

@[expose] public section

set_option maxRecDepth 16384

noncomputable section

namespace Cert.Kern

open Cert.KernelIdeal Cert.KernelIdeal.Gen Idealize.ShloMosaic Idealize.ShloMosaic.TcCoe Cert.Spec Cert.Words

/-- Equality of label words, as a flag, is equality of labels. -/
theorem eq_word (a b : Fin 100) :
    IntOp.cmpi .eq (BitVec.ofNat 32 a.val) (BitVec.ofNat 32 b.val) = if a = b then 1#1 else 0#1 := by
  simp only [IntOp.cmpi, beq_eq_decide, Labels.ofNat_inj]
  by_cases h : a = b <;> simp [h]

/-- The class flag of row `r` of a block: one if its label is that of the single row `y0`. -/
theorem flag_apply (y : FVec Ideal S1024x100 .f32) (y0 : FVec Ideal S1x100 .f32) (r : Fin 1024) :
    k0_pay11 (F := Ideal) y y0 (ix2 r 0)
      = if label (fun k => y (ix2 r k)) = label (fun k => y0 (ix2 0 k)) then 1 else 0 := by
  pointwise [k0_pay11]
  rw [Labels.fold_min_eq (fun k => y (ix2 r k)), Labels.fold_min_eq (fun k => y0 (ix2 0 k)), eq_word, flag_word]

/-- What a block adds to the count: its rows' class flags. -/
theorem count_step (y : FVec Ideal S1024x100 .f32) (y0 : FVec Ideal S1x100 .f32) (n : EReal) :
    k0_pay12 (F := Ideal) y y0 n = n + ∑ r : Fin 1024, k0_pay11 (F := Ideal) y y0 (ix2 r 0) := by
  pointwise [k0_pay12]
  simp only [Fin.sum_univ_one]

/-- The row numbers of a block. -/
theorem rows_apply (i : grid0.Coords) (r : Fin 1024) :
    k0_pay13 i (ix2 r 0) = BitVec.ofNat 32 ((i 0).val * 1024 + r.val) := by
  pointwise [k0_pay13]
  exact row_word _ _

/-- The weight of row `r` of a block in bin `k`: the triangle at its squared distance to the single row `q`, and zero for
    row number zero. -/
theorem weight_apply (w : IVec S1024x1 32) (n : Nat) (x : FVec Ideal S1024x128 .f32) (q : FVec Ideal S1x128 .f32)
    (r : Fin 1024) (k : Fin 128) (hn : n < 2 ^ 31) (hw : w (ix2 r 0) = BitVec.ofNat 32 n) :
    k0_pay14 (F := Ideal) w x q (ix2 r k)
      = tri (center k) (∑ j, (x (ix2 r j) - q (ix2 0 j)) * (x (ix2 r j) - q (ix2 0 j))) * if 1 ≤ n then 1 else 0 := by
  pointwise [k0_pay14]
  rw [affine_eq, ofBits_quarter, hw, show (1#32 : BitVec 32) = BitVec.ofNat 32 1 from rfl, sge_iff hn (by decide), flag_word]
  rfl

/-- What a block adds to the histogram. -/
theorem hist_step (w : IVec S1024x1 32) (x : FVec Ideal S1024x128 .f32) (q h : FVec Ideal S1x128 .f32) (k : Fin 128) :
    k0_pay15 (F := Ideal) w x q h (ix2 0 k) = h (ix2 0 k) + ∑ r : Fin 1024, k0_pay14 (F := Ideal) w x q (ix2 r k) := by
  pointwise [k0_pay15]

/-- What a block adds to the histogram of its class. -/
theorem histSame_step (f : FVec Ideal S1024x1 .f32) (w : IVec S1024x1 32) (x : FVec Ideal S1024x128 .f32)
    (q h : FVec Ideal S1x128 .f32) (k : Fin 128) :
    k0_pay1 (F := Ideal) h (k0_pay16 f w x q) (ix2 0 k)
      = h (ix2 0 k) + ∑ r : Fin 1024, k0_pay14 (F := Ideal) w x q (ix2 r k) * f (ix2 r 0) := by
  pointwise [k0_pay1, k0_pay16]

/-- The histograms start at zero. -/
theorem hist_start (k : Fin 128) : k0_pay9 (F := Ideal) (ix2 0 k) = 0 ∧ k0_pay10 (F := Ideal) (ix2 0 k) = 0 := by
  constructor
  · pointwise [k0_pay9]
  · pointwise [k0_pay10]

end Cert.Kern
-- ==== Proof.Points.lean ====
/- What each grid point leaves in the three running totals (the histogram, the histogram of row 0's class, the count) over
   what the point before left in them, and what the last point writes to the result. -/
module

public import proofs.«01_k».proof.Proof.Scan
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.Kern

open Cert.KernelIdeal Cert.KernelIdeal.Gen Idealize.ShloMosaic Idealize.ShloMosaic.TcCoe Idealize.SL.Sem

variable (m : (ℓ : Loc nD τ sig) → Buf (Elt Ideal) ℓ)

/-- The histogram after a point, over the histogram before it. -/
def histOf (c : Dev nD) (t : Fin cfg0.N) (h : FVec Ideal S1x128 .f32) : FVec Ideal S1x128 .f32 :=
  k0_pay15 (F := Ideal) (k0_pay13 (grid0.coords t)) (iblk m c 0 t) (iblk m c 2 t) h

/-- The histogram of row 0's class after a point, over the one before it. -/
def sameOf (c : Dev nD) (t : Fin cfg0.N) (h : FVec Ideal S1x128 .f32) : FVec Ideal S1x128 .f32 :=
  k0_pay1 (F := Ideal) h
    (k0_pay16 (k0_pay11 (iblk m c 1 t) (iblk m c 3 t)) (k0_pay13 (grid0.coords t)) (iblk m c 0 t) (iblk m c 2 t))

/-- The count after a point, over the count before it. -/
def countOf (c : Dev nD) (t : Fin cfg0.N) (n : EReal) : EReal :=
  k0_pay12 (F := Ideal) (iblk m c 1 t) (iblk m c 3 t) n

/-- There are eight points. -/
theorem point_lt (t : Fin cfg0.N) : t.val < 8 := lt_of_lt_of_eq t.isLt N_0

/-- A one-element array has one index. -/
theorem idx_one (j : S1x1.Idx) : j = ix2 0 0 :=
  (eq_ix2 j).trans (congrArg₂ ix2 (Subsingleton.elim (α := Fin 1) _ _) (Subsingleton.elim (α := Fin 1) _ _))

/-- The first index of a one-element array is that index. -/
theorem first_one (h : 0 < S1x1.numel) : Shape.Idx.first h = (ix2 0 0 : S1x1.Idx) := idx_one _

/-- The first point starts the histogram from zero. -/
theorem hist_first (c : Dev nD) (t : Fin cfg0.N) (h : t.val = 0) :
    (outsAt0 m c t.val t.isLt).2.1 = histOf m c t (k0_pay9 (F := Ideal)) := by
  rw [outsAt0_A m c t (by omega) (by omega)]
  unfold histOf
  frame_out

/-- The first point starts the histogram of row 0's class from zero. -/
theorem same_first (c : Dev nD) (t : Fin cfg0.N) (h : t.val = 0) :
    (outsAt0 m c t.val t.isLt).2.2.1 = sameOf m c t (k0_pay10 (F := Ideal)) := by
  rw [outsAt0_A m c t (by omega) (by omega)]
  unfold sameOf
  frame_out

/-- The first point starts the count from zero. -/
theorem count_first (c : Dev nD) (t : Fin cfg0.N) (h : t.val = 0) :
    (outsAt0 m c t.val t.isLt).2.2.2 = fun _ => countOf m c t 0 := by
  rw [outsAt0_A m c t (by omega) (by omega)]
  unfold countOf
  frame_out
  rw [Ideal.ofBits_def, Ideal.ofBits_zero_f32]
  rfl

/-- What the point before `t` left. -/
abbrev prev (c : Dev nD) (t : Fin cfg0.N) := outsAt0 m c (t.val - 1) (Nat.lt_of_le_of_lt (Nat.sub_le _ _) t.isLt)

/-- A later point continues the histogram. -/
theorem hist_next (c : Dev nD) (t : Fin cfg0.N) (h : t.val ≠ 0) :
    (outsAt0 m c t.val t.isLt).2.1 = histOf m c t (prev m c t).2.1 := by
  have := point_lt t
  unfold histOf prev
  by_cases h1 : t.val % 8 = 7
  · rw [outsAt0_C m c t (by omega) h1]
    frame_out
    simp only [read_unread_whole]
  · rw [outsAt0_B m c t (by omega) h1]
    frame_out
    simp only [read_unread_whole]

/-- A later point continues the histogram of row 0's class. -/
theorem same_next (c : Dev nD) (t : Fin cfg0.N) (h : t.val ≠ 0) :
    (outsAt0 m c t.val t.isLt).2.2.1 = sameOf m c t (prev m c t).2.2.1 := by
  have := point_lt t
  unfold sameOf prev
  by_cases h1 : t.val % 8 = 7
  · rw [outsAt0_C m c t (by omega) h1]
    frame_out
    simp only [read_unread_whole]
  · rw [outsAt0_B m c t (by omega) h1]
    frame_out
    simp only [read_unread_whole]

/-- A later point continues the count. -/
theorem count_next (c : Dev nD) (t : Fin cfg0.N) (h : t.val ≠ 0) :
    (outsAt0 m c t.val t.isLt).2.2.2 = fun _ => countOf m c t ((prev m c t).2.2.2 (ix2 0 0)) := by
  have := point_lt t
  unfold countOf prev
  by_cases h1 : t.val % 8 = 7
  · rw [outsAt0_C m c t (by omega) h1]
    frame_out
    simp only [read_unread_whole]
    rw [first_one]
    rfl
  · rw [outsAt0_B m c t (by omega) h1]
    frame_out
    simp only [read_unread_whole]
    rw [first_one]
    rfl

/-- The last point writes the result of its three totals. -/
theorem out_last (c : Dev nD) (t : Fin cfg0.N) (h : t.val = 7) :
    (outsAt0 m c t.val t.isLt).1
      = fun _ => result (outsAt0 m c t.val t.isLt).2.1 (outsAt0 m c t.val t.isLt).2.2.1 ((outsAt0 m c t.val t.isLt).2.2.2 (ix2 0 0)) := by
  rw [hist_next m c t (by omega), same_next m c t (by omega), count_next m c t (by omega), outsAt0_C m c t (by omega) (by omega)]
  unfold result histOf sameOf countOf prev
  frame_out
  simp only [read_unread_whole]
  rw [first_one]
  rfl

end Cert.Kern
-- ==== Proof.Windows.lean ====
/- What the kernel's four input windows hold at a grid point, by coordinates: 1024 consecutive rows of the two arguments, and
   row 0 of each. -/
module

public import proofs.«01_k».proof.Proof.Points

@[expose] public section

set_option maxRecDepth 16384

noncomputable section

namespace Cert.Kern

open Cert.KernelIdeal Cert.KernelIdeal.Gen Idealize.ShloMosaic Idealize.ShloMosaic.TcCoe Idealize.SL.Sem

variable (m : (ℓ : Loc nD τ sig) → Buf (Elt Ideal) ℓ)

/-- The rows of the embedding argument. -/
def X (c : Dev nD) (r : Fin 8192) (k : Fin 128) : EReal :=
  (m ((c.tc : Thread nD τ).loc main_arg0) : FVec Ideal S8192x128 .f32) (ix2 r k)

/-- The rows of the score argument. -/
def Y (c : Dev nD) (r : Fin 8192) (k : Fin 100) : EReal :=
  (m ((c.tc : Thread nD τ).loc main_arg3) : FVec Ideal S8192x100 .f32) (ix2 r k)

/-- Row `r` of the block of point `t`, as a row of the whole array. -/
def rowOf (t : Fin cfg0.N) (r : Fin 1024) : Fin 8192 := ⟨t.val * 1024 + r.val, by have := point_lt t; omega⟩

/-- The one grid coordinate of a point is its number. -/
theorem coord_val : ∀ t : Fin cfg0.N, ((grid0.coords t) 0).val = t.val := by decide +kernel

/-- Window 0 stands at block `t` at point `t`. -/
theorem idx0 : ∀ t : Fin cfg0.N, win0_0.index t 0 = t.val ∧ win0_0.index t 1 = 0 := by decide +kernel

/-- Window 1 stands at block `t` at point `t`. -/
theorem idx1 : ∀ t : Fin cfg0.N, win0_1.index t 0 = t.val ∧ win0_1.index t 1 = 0 := by decide +kernel

/-- Window 2 stands still. -/
theorem idx2 : ∀ t : Fin cfg0.N, win0_2.index t 0 = 0 ∧ win0_2.index t 1 = 0 := by decide +kernel

/-- Window 3 stands still. -/
theorem idx3 : ∀ t : Fin cfg0.N, win0_3.index t 0 = 0 ∧ win0_3.index t 1 = 0 := by decide +kernel

/-- Window 0 holds the point's block of the embeddings. -/
theorem read0 (c : Dev nD) (t : Fin cfg0.N) (r : Fin 1024) (k : Fin 128) :
    (iblk m c 0 t : FVec Ideal S1024x128 .f32) (ix2 r k) = X m c (rowOf t r) k := by
  unfold X rowOf
  blk_ext [iblk, V_main_arg0, idx0 t]

/-- Window 1 holds the point's block of the scores. -/
theorem read1 (c : Dev nD) (t : Fin cfg0.N) (r : Fin 1024) (k : Fin 100) :
    (iblk m c 1 t : FVec Ideal S1024x100 .f32) (ix2 r k) = Y m c (rowOf t r) k := by
  unfold Y rowOf
  blk_ext [iblk, V_main_arg3, idx1 t]

/-- The embedding row staged whole is row 0, cut out before the kernel starts. -/
theorem entry2 (c : Dev nD) : (V m c main_call0_v0 : FVec Ideal S1x128 .f32)
    = extractStridedSlice S1x128 ![0, 0] (m ((c.tc : Thread nD τ).loc main_arg0) : FVec Ideal S8192x128 .f32)
        slices_S8192x128_S1x128_0_0 := rfl

/-- The score row staged whole is row 0, cut out before the kernel starts. -/
theorem entry3 (c : Dev nD) : (V m c main_call0_v1 : FVec Ideal S1x100 .f32)
    = extractStridedSlice S1x100 ![0, 0] (m ((c.tc : Thread nD τ).loc main_arg3) : FVec Ideal S8192x100 .f32)
        slices_S8192x100_S1x100_0_0 := rfl

/-- Window 2 holds row 0 of the embeddings. -/
theorem read2 (c : Dev nD) (t : Fin cfg0.N) (k : Fin 128) :
    (iblk m c 2 t : FVec Ideal S1x128 .f32) (ix2 0 k) = X m c 0 k := by
  have e : (win0_2.blk t).view.emb (ix2 0 k) = (ix2 0 k : S1x128.Idx) := by blk_ext [idx2 t]
  blk_simp [iblk]
  rw [e]
  refine (congrFun (entry2 m c) _).trans ?_
  unfold X
  pointwise

/-- Window 3 holds row 0 of the scores. -/
theorem read3 (c : Dev nD) (t : Fin cfg0.N) (k : Fin 100) :
    (iblk m c 3 t : FVec Ideal S1x100 .f32) (ix2 0 k) = Y m c 0 k := by
  have e : (win0_3.blk t).view.emb (ix2 0 k) = (ix2 0 k : S1x100.Idx) := by blk_ext [idx3 t]
  blk_simp [iblk]
  rw [e]
  refine (congrFun (entry3 m c) _).trans ?_
  unfold Y
  pointwise

end Cert.Kern
-- ==== Proof.Totals.lean ====
/- The three running totals after the last grid point: the histogram, the histogram of row 0's class, and the count, over all
   8192 rows; hence what the last point writes to the result. -/
module

public import proofs.«01_k».proof.Proof.Block
public import proofs.«01_k».proof.Proof.Windows

@[expose] public section

set_option maxRecDepth 16384

noncomputable section

namespace Cert.Kern

open Cert.KernelIdeal Cert.KernelIdeal.Gen Idealize.ShloMosaic Idealize.ShloMosaic.TcCoe Idealize.SL.Sem Cert.Spec

variable (m : (ℓ : Loc nD τ sig) → Buf (Elt Ideal) ℓ)

/-- A total that starts with block 0 and gains one block at each of the seven further points is the sum of the blocks. -/
theorem total_eq {N : Nat} (hN : N = 8) (f : (n : Nat) → n < N → EReal) (B : Fin N → EReal)
    (h0 : ∀ h, f 0 h = B ⟨0, h⟩) (hs : ∀ n (h : n + 1 < N), f (n + 1) h = f n (by omega) + B ⟨n + 1, h⟩) (h7 : 7 < N) :
    f 7 h7 = ∑ t, B t := by
  subst hN
  rw [Fin.sum_univ_eight]
  simp only [hs, h0]
  rfl

/-- A sum over blocks and rows of a block is the sum over all rows. -/
theorem sum_rows {N : Nat} (hN : N = 8) (e : Fin N → Fin 1024 → Fin 8192)
    (he : ∀ t r, (e t r).val = t.val * 1024 + r.val) (g : Fin 8192 → EReal) : ∑ t, ∑ r, g (e t r) = ∑ r, g r := by
  subst hN
  rw [← Fintype.sum_prod_type']
  refine Fintype.sum_equiv (finProdFinEquiv (m := 8) (n := 1024)) _ _ fun p => ?_
  refine congrArg g (Fin.ext ((he p.1 p.2).trans ?_))
  simp only [finProdFinEquiv_apply_val]
  omega

/-- The weight of a row in a bin, row 0 weighing nothing. -/
def weight (x : Fin 8192 → Fin 128 → EReal) (k : Fin 128) (r : Fin 8192) : EReal :=
  tri (center k) (sqDist x r) * if 1 ≤ r.val then 1 else 0

/-- Row 0 weighs nothing. -/
theorem weight_zero (x : Fin 8192 → Fin 128 → EReal) (k : Fin 128) : weight x k 0 = 0 := by
  unfold weight
  rw [if_neg (by decide), mul_zero]

/-- A further row weighs its triangle. -/
theorem weight_succ (x : Fin 8192 → Fin 128 → EReal) (k : Fin 128) (r : Fin 8191) :
    weight x k r.succ = tri (center k) (sqDist x r.succ) := by
  unfold weight
  rw [if_pos (by rw [Fin.val_succ]; omega), mul_one]

/-- The weights of all rows make the histogram. -/
theorem sum_weight (x : Fin 8192 → Fin 128 → EReal) (k : Fin 128) : ∑ r, weight x k r = hist x k := by
  rw [Fin.sum_univ_succ, weight_zero, zero_add]
  exact Finset.sum_congr rfl fun r _ => weight_succ x k r

/-- The weights of the rows of row 0's class make its histogram. -/
theorem sum_weight_same (x : Fin 8192 → Fin 128 → EReal) (y : Fin 8192 → Fin 100 → EReal) (k : Fin 128) :
    ∑ r, weight x k r * same y r = histSame x y k := by
  rw [Fin.sum_univ_succ, weight_zero, zero_mul, zero_add]
  exact Finset.sum_congr rfl fun r _ => by rw [weight_succ]

/-- The weight the kernel gives row `r` of a block. -/
theorem weight_read (c : Dev nD) (t : Fin cfg0.N) (r : Fin 1024) (k : Fin 128) :
    k0_pay14 (F := Ideal) (k0_pay13 (grid0.coords t)) (iblk m c 0 t) (iblk m c 2 t) (ix2 r k)
      = weight (X m c) k (rowOf t r) := by
  have ht := point_lt t
  rw [weight_apply (k0_pay13 (grid0.coords t)) (t.val * 1024 + r.val) (iblk m c 0 t) (iblk m c 2 t) r k (by omega)
    (by rw [rows_apply, coord_val])]
  simp only [read0, read2]
  rfl

/-- The class flag the kernel gives row `r` of a block. -/
theorem flag_read (c : Dev nD) (t : Fin cfg0.N) (r : Fin 1024) :
    k0_pay11 (F := Ideal) (iblk m c 1 t) (iblk m c 3 t) (ix2 r 0) = same (Y m c) (rowOf t r) := by
  rw [flag_apply (iblk m c 1 t) (iblk m c 3 t) r]
  simp only [read1, read3]
  rfl

/-- What a point adds to bin `k` of the histogram. -/
theorem histOf_apply (c : Dev nD) (t : Fin cfg0.N) (h : FVec Ideal S1x128 .f32) (k : Fin 128) :
    histOf m c t h (ix2 0 k) = h (ix2 0 k) + ∑ r, weight (X m c) k (rowOf t r) := by
  unfold histOf
  rw [hist_step]
  simp only [weight_read]

/-- What a point adds to bin `k` of the histogram of row 0's class. -/
theorem sameOf_apply (c : Dev nD) (t : Fin cfg0.N) (h : FVec Ideal S1x128 .f32) (k : Fin 128) :
    sameOf m c t h (ix2 0 k)
      = h (ix2 0 k) + ∑ r, weight (X m c) k (rowOf t r) * same (Y m c) (rowOf t r) := by
  unfold sameOf
  rw [histSame_step]
  simp only [weight_read, flag_read]

/-- What a point adds to the count. -/
theorem countOf_apply (c : Dev nD) (t : Fin cfg0.N) (n : EReal) :
    countOf m c t n = n + ∑ r, same (Y m c) (rowOf t r) := by
  unfold countOf
  rw [count_step]
  simp only [flag_read]

/-- There is a last point. -/
theorem last_lt : 7 < cfg0.N := lt_of_lt_of_eq (by decide : 7 < 8) N_0.symm

/-- The histogram after the last point. -/
theorem hist_end (c : Dev nD) (k : Fin 128) : (outsAt0 m c 7 last_lt).2.1 (ix2 0 k) = hist (X m c) k := by
  refine (total_eq N_0 (fun n h => (outsAt0 m c n h).2.1 (ix2 0 k)) (fun t => ∑ r, weight (X m c) k (rowOf t r))
    (fun h => ?_) (fun n h => ?_) last_lt).trans ?_
  · refine (congrFun (hist_first m c ⟨0, h⟩ rfl) _).trans ?_
    rw [histOf_apply, (hist_start k).1, zero_add]
  · refine (congrFun (hist_next m c ⟨n + 1, h⟩ (Nat.succ_ne_zero n)) _).trans ?_
    rw [histOf_apply]
    rfl
  · rw [sum_rows N_0 rowOf (fun _ _ => rfl) (weight (X m c) k), sum_weight]

/-- The histogram of row 0's class after the last point. -/
theorem same_end (c : Dev nD) (k : Fin 128) :
    (outsAt0 m c 7 last_lt).2.2.1 (ix2 0 k) = histSame (X m c) (Y m c) k := by
  refine (total_eq N_0 (fun n h => (outsAt0 m c n h).2.2.1 (ix2 0 k))
    (fun t => ∑ r, weight (X m c) k (rowOf t r) * same (Y m c) (rowOf t r)) (fun h => ?_) (fun n h => ?_) last_lt).trans ?_
  · refine (congrFun (same_first m c ⟨0, h⟩ rfl) _).trans ?_
    rw [sameOf_apply, (hist_start k).2, zero_add]
  · refine (congrFun (same_next m c ⟨n + 1, h⟩ (Nat.succ_ne_zero n)) _).trans ?_
    rw [sameOf_apply]
    rfl
  · rw [sum_rows N_0 rowOf (fun _ _ => rfl) (fun r => weight (X m c) k r * same (Y m c) r), sum_weight_same]

/-- The count after the last point. -/
theorem count_end (c : Dev nD) : (outsAt0 m c 7 last_lt).2.2.2 (ix2 0 0) = count (Y m c) := by
  refine (total_eq N_0 (fun n h => (outsAt0 m c n h).2.2.2 (ix2 0 0)) (fun t => ∑ r, same (Y m c) (rowOf t r))
    (fun h => ?_) (fun n h => ?_) last_lt).trans ?_
  · refine (congrFun (count_first m c ⟨0, h⟩ rfl) _).trans ?_
    rw [countOf_apply, zero_add]
  · refine (congrFun (count_next m c ⟨n + 1, h⟩ (Nat.succ_ne_zero n)) _).trans ?_
    rw [countOf_apply]
    rfl
  · exact sum_rows N_0 rowOf (fun _ _ => rfl) (same (Y m c))

/-- The last point writes the loss of the two arguments. -/
theorem out_end (c : Dev nD) : (outsAt0 m c 7 last_lt).1 = fun _ => loss (X m c) (Y m c) := by
  refine (out_last m c ⟨7, last_lt⟩ rfl).trans (funext fun _ => ?_)
  rw [result_eq]
  simp only [hist_end, same_end, count_end]
  rfl

end Cert.Kern
-- ==== Proof.KernelRun.lean ====
/- The kernel's run: the one-element array its region writes holds the loss of its arguments, and the reshape after the
   region carries it to the result. -/
module

public import proofs.«01_k».proof.Proof.Totals
public import Idealize.ShloMosaic.Lib.Claim

@[expose] public section

set_option maxRecDepth 16384

noncomputable section

namespace Cert.Kern

open Cert.KernelIdeal Cert.KernelIdeal.Gen Idealize.ShloMosaic Idealize.ShloMosaic.TcCoe Idealize.SL.Sem

attribute [local instance] Cert.KernelIdeal.Gen.facts

variable (m : (ℓ : Loc nD τ sig) → Buf (Elt Ideal) ℓ) (ρ : Dev nD → PrngReg)

/-- The array the region writes ends holding the loss. -/
theorem array_end (c : Dev nD) :
    (dats m 0 c).arrAt 4 cfg0.N = (fun _ => Spec.loss (X m c) (Y m c) : FVec Ideal S1x1 .f32) := by
  refine Pipeline.Dat.arrAt_eq_of_after_last _ 4 t0_7 (by decide +kernel) _ fun j => ?_
  blk_simp
  rw [after0_4]
  exact congrFun (out_end m c) _

/-- The result, after the reshape that follows the region, holds the loss. -/
theorem tail_read (c : Dev nD) :
    (Pipeline.afterTail₀ cfgs (dats m) 0 (V0 m) [hostOps1] c main_v0 : FVec Ideal S_ .f32)
      = fun _ => Spec.loss (X m c) (Y m c) := by
  have e : (Pipeline.afterTail₀ cfgs (dats m) 0 (V0 m) [hostOps1] c main_v0 : FVec Ideal S_ .f32)
      = shapeCast S_ ((dats m 0 c).arrAt 4 cfg0.N : FVec Ideal S1x1 .f32) shapeCasts_S1x1_S_ := by
    have a := Pipeline.withArrays_arr spec0 (by decide) c (V0 m c) (fun w => (dats m 0 c).arrAt w cfg0.N) 4
    exact congrArg (fun v : FVec Ideal S1x1 .f32 => shapeCast S_ v shapeCasts_S1x1_S_) a
  rw [e, array_end]
  rfl

/-- The kernel terminates with the loss of its first and fourth arguments in its result and its arguments unchanged. -/
theorem run : θ_run (defs (F := Ideal)) (onTc (τ := τ) (main (F := Ideal))) ⟨m, fun _ => 0, ρ⟩ (fun r => ∀ c : Dev nD,
      r.2.mem ((c.tc : Thread nD τ).loc main_v0) = (fun _ => Spec.loss (X m c) (Y m c) : FVec Ideal S_ .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono
    (fun _ h c => ⟨((h.1 c).2 main_v0 (Pipeline.mem_restRefs_of main_v0 (by decide) (by decide))).trans (tail_read m c), h.2 c⟩)
    (θ_run_and (run_main m ρ) (unchanged m ρ))

end Cert.Kern
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefValue
public import proofs.«01_k».proof.Proof.KernelRun
public import Idealize.ShloMosaic.Adequacy
public import Idealize.ShloMosaic.Init

@[expose] public section

noncomputable section

namespace Cert.Proof

open Idealize.ShloMosaic Idealize.SL.Sem Cert.Kernel

/-- The kernel and the reference leave the same value: each its own arguments' `Spec.loss`, and the arguments agree. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => (fun _ => Cert.Spec.loss (Cert.Kern.X m c) (Cert.Kern.Y m c)), Cert.Kern.run m g, ?_⟩
  refine (θ_run _ _ _).mono (fun _ h c => ⟨(h c).1.trans (funext fun j => (Cert.Reference.loss_eq _ _ j).trans ?_), (h c).2⟩)
    (Cert.Reference.run m' g')
  obtain ⟨a0, _, _, a3⟩ := hagree c
  rw [a0, a3]
  rfl

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, Cert.Reference.frame, trivial,
  algebraic⟩

end Cert.Proof

end
